-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal (hKernel3Ideal := hKernel3Ideal) (hReference3Ideal := hReference3Ideal)
-- ==== Kernel.lean ====
abbrev S8x8192x1024 : Shape := ⟨3, ![8, 8192, 1024]⟩
abbrev S8x9x1024 : Shape := ⟨3, ![8, 9, 1024]⟩
abbrev S1x1024 : Shape := ⟨2, ![1, 1024]⟩
abbrev S1x1024x2568 : Shape := ⟨3, ![1, 1024, 2568]⟩
abbrev S1x4x1536 : Shape := ⟨3, ![1, 4, 1536]⟩
abbrev S1x4 : Shape := ⟨2, ![1, 4]⟩
abbrev S1x128 : Shape := ⟨2, ![1, 128]⟩
abbrev S1x4x128x128 : Shape := ⟨4, ![1, 4, 128, 128]⟩
abbrev S1x512 : Shape := ⟨2, ![1, 512]⟩
abbrev S1x1024x1024 : Shape := ⟨3, ![1, 1024, 1024]⟩
abbrev S1024x2568 : Shape := ⟨2, ![1024, 2568]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x512 : Shape := ⟨2, ![1024, 512]⟩
abbrev S2x128 : Shape := ⟨2, ![2, 128]⟩
abbrev S4 : Shape := ⟨1, ![4]⟩
abbrev S1 : Shape := ⟨1, ![1]⟩
abbrev S2 : Shape := ⟨1, ![2]⟩
abbrev S1024 : Shape := ⟨1, ![1024]⟩
abbrev S4x1536 : Shape := ⟨2, ![4, 1536]⟩
abbrev S128 : Shape := ⟨1, ![128]⟩
abbrev S4x128x128 : Shape := ⟨3, ![4, 128, 128]⟩
abbrev S512 : Shape := ⟨1, ![512]⟩
abbrev S1024x1024 : Shape := ⟨2, ![1024, 1024]⟩
abbrev S1x9x1024 : Shape := ⟨3, ![1, 9, 1024]⟩
abbrev S1032x1536 : Shape := ⟨2, ![1032, 1536]⟩
abbrev S16x512 : Shape := ⟨2, ![16, 512]⟩
abbrev S8x1536 : Shape := ⟨2, ![8, 1536]⟩
abbrev S512x1024 : Shape := ⟨2, ![512, 1024]⟩
abbrev S1x128x128 : Shape := ⟨3, ![1, 128, 128]⟩
abbrev S128x128 : Shape := ⟨2, ![128, 128]⟩
abbrev S128x1024 : Shape := ⟨2, ![128, 1024]⟩
abbrev S1x1x1024 : Shape := ⟨3, ![1, 1, 1024]⟩
abbrev S1024x1 : Shape := ⟨2, ![1024, 1]⟩
abbrev S1024x1536 : Shape := ⟨2, ![1024, 1536]⟩
abbrev S8x1024 : Shape := ⟨2, ![8, 1024]⟩
abbrev S129x8x1536 : Shape := ⟨3, ![129, 8, 1536]⟩
abbrev S1x8x1 : Shape := ⟨3, ![1, 8, 1]⟩
abbrev S1x1536 : Shape := ⟨2, ![1, 1536]⟩
abbrev S1x1x1536 : Shape := ⟨3, ![1, 1, 1536]⟩
abbrev S1x8x1536 : Shape := ⟨3, ![1, 8, 1536]⟩
abbrev S128x8x1536 : Shape := ⟨3, ![128, 8, 1536]⟩
abbrev S128x1 : Shape := ⟨2, ![128, 1]⟩
abbrev S1x1 : Shape := ⟨2, ![1, 1]⟩
abbrev S256x128 : Shape := ⟨2, ![256, 128]⟩
abbrev S128x256 : Shape := ⟨2, ![128, 256]⟩
abbrev S128x512 : Shape := ⟨2, ![128, 512]⟩
abbrev S144x512 : Shape := ⟨2, ![144, 512]⟩
abbrev S144x128 : Shape := ⟨2, ![144, 128]⟩
abbrev S1x128x1024 : Shape := ⟨3, ![1, 128, 1024]⟩

abbrev nBuf : Space → Nat
  | .hbm => 48
  | .vmem => 20
  | .smem => 0
  | _ => 0

abbrev bufTy : (tb : Table) → Fin (tcTables nBuf tb) → BufTy
  | .hbm, ⟨0, _⟩ => ⟨S8x8192x1024, .f32⟩
  | .hbm, ⟨1, _⟩ => ⟨S8x9x1024, .f32⟩
  | .hbm, ⟨2, _⟩ => ⟨S1x1024, .f32⟩
  | .hbm, ⟨3, _⟩ => ⟨S1x1024x2568, .f32⟩
  | .hbm, ⟨4, _⟩ => ⟨S1x4x1536, .f32⟩
  | .hbm, ⟨5, _⟩ => ⟨S1x4, .f32⟩
  | .hbm, ⟨6, _⟩ => ⟨S1x4, .f32⟩
  | .hbm, ⟨7, _⟩ => ⟨S1x128, .f32⟩
  | .hbm, ⟨8, _⟩ => ⟨S1x4x128x128, .f32⟩
  | .hbm, ⟨9, _⟩ => ⟨S1x512, .f32⟩
  | .hbm, ⟨10, _⟩ => ⟨S1x1024x1024, .f32⟩
  | .hbm, ⟨11, _⟩ => ⟨S1024x2568, .f32⟩
  | .hbm, ⟨12, _⟩ => ⟨S1024x2048, .f32⟩
  | .hbm, ⟨13, _⟩ => ⟨S1024x2048, .bf16⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x512, .f32⟩
  | .hbm, ⟨20, _⟩ => ⟨S1024x512, .bf16⟩
  | .hbm, ⟨21, _⟩ => ⟨S_, .f32⟩
  | .hbm, ⟨22, _⟩ => ⟨S2x128, .f32⟩
  | .hbm, ⟨23, _⟩ => ⟨S4, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S2x128, .f32⟩
  | .hbm, ⟨30, _⟩ => ⟨S4, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S2x128, .f32⟩
  | .hbm, ⟨37, _⟩ => ⟨S1024, .f32⟩
  | .hbm, ⟨38, _⟩ => ⟨S1x1024, .f32⟩
  | .hbm, ⟨39, _⟩ => ⟨S4x1536, .f32⟩
  | .hbm, ⟨40, _⟩ => ⟨S128, .f32⟩
  | .hbm, ⟨41, _⟩ => ⟨S1x128, .f32⟩
  | .hbm, ⟨42, _⟩ => ⟨S4x128x128, .f32⟩
  | .hbm, ⟨43, _⟩ => ⟨S512, .f32⟩
  | .hbm, ⟨44, _⟩ => ⟨S1x512, .f32⟩
  | .hbm, ⟨45, _⟩ => ⟨S1024x1024, .f32⟩
  | .hbm, ⟨46, _⟩ => ⟨S1024x1024, .bf16⟩
  | .hbm, ⟨47, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2048, .bf16⟩
  | .local _ .vmem, ⟨6, _⟩ => ⟨S1024x128, .bf16⟩
  | .local _ .vmem, ⟨7, _⟩ => ⟨S1024x512, .bf16⟩
  | .local _ .vmem, ⟨8, _⟩ => ⟨S4x1536, .f32⟩
  | .local _ .vmem, ⟨9, _⟩ => ⟨S2x128, .f32⟩
  | .local _ .vmem, ⟨10, _⟩ => ⟨S1x128, .f32⟩
  | .local _ .vmem, ⟨11, _⟩ => ⟨S4x128x128, .f32⟩
  | .local _ .vmem, ⟨12, _⟩ => ⟨S1x512, .f32⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S4x128x128, .f32⟩
  | .local _ .vmem, ⟨17, _⟩ => ⟨S1032x1536, .f32⟩
  | .local _ .vmem, ⟨18, _⟩ => ⟨S16x512, .f32⟩
  | .local _ .vmem, ⟨19, _⟩ => ⟨S1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== Kernel2.lean ====
abbrev S8x8192x1024 : Shape := ⟨3, ![8, 8192, 1024]⟩
abbrev S8x9x1024 : Shape := ⟨3, ![8, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S65536x1024 : Shape := ⟨2, ![65536, 1024]⟩
abbrev S1024x2816 : Shape := ⟨2, ![1024, 2816]⟩
abbrev S2816x1024 : Shape := ⟨2, ![2816, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 18
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S8x9x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1x1024, .f32⟩
  | .hbm, ⟨8, _⟩ => ⟨S65536x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x8192x1024 : Shape := ⟨3, ![8, 8192, 1024]⟩
abbrev S8x9x1024 : Shape := ⟨3, ![8, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x1024 : Shape := ⟨2, ![8, 1024]⟩
abbrev S1024x2816 : Shape := ⟨2, ![1024, 2816]⟩
abbrev S2816x1024 : Shape := ⟨2, ![2816, 1024]⟩
abbrev S8x8192x2816 : Shape := ⟨3, ![8, 8192, 2816]⟩
abbrev S65536x1024 : Shape := ⟨2, ![65536, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x9x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x8192x1024, .f32⟩
  | .hbm, ⟨33, _⟩ => ⟨S8x8192x1024, .f32⟩
  | .hbm, ⟨34, _⟩ => ⟨S8x1x1024, .f32⟩
  | .hbm, ⟨35, _⟩ => ⟨S8x8192x1024, .f32⟩
  | .hbm, ⟨36, _⟩ => ⟨S8x8192x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S1024x2816, .f32⟩
  | .hbm, ⟨44, _⟩ => ⟨S1024x2816, .f32⟩
  | .hbm, ⟨45, _⟩ => ⟨S2816x1024, .f32⟩
  | .hbm, ⟨46, _⟩ => ⟨S8x8192x2816, .f32⟩
  | .hbm, ⟨47, _⟩ => ⟨S8x8192x2816, .f32⟩
  | .hbm, ⟨48, _⟩ => ⟨S8x8192x2816, .f32⟩
  | .hbm, ⟨49, _⟩ => ⟨S_, .f32⟩
  | .hbm, ⟨50, _⟩ => ⟨S8x8192x2816, .f32⟩
  | .hbm, ⟨51, _⟩ => ⟨S8x8192x2816, .f32⟩
  | .hbm, ⟨52, _⟩ => ⟨S_, .f32⟩
  | .hbm, ⟨53, _⟩ => ⟨S8x8192x2816, .f32⟩
  | .hbm, ⟨54, _⟩ => ⟨S8x8192x2816, .f32⟩
  | .hbm, ⟨55, _⟩ => ⟨S8x8192x2816, .f32⟩
  | .hbm, ⟨56, _⟩ => ⟨S8x8192x2816, .f32⟩
  | .hbm, ⟨57, _⟩ => ⟨S8x8192x2816, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x9x1024 : Shape := ⟨3, ![8, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S65536x1024 : Shape := ⟨2, ![65536, 1024]⟩
abbrev S1024x2816 : Shape := ⟨2, ![1024, 2816]⟩
abbrev S2816x1024 : Shape := ⟨2, ![2816, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 18
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S8x9x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1x1024, .f32⟩
  | .hbm, ⟨8, _⟩ => ⟨S65536x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x8192x1024 : Shape := ⟨3, ![8, 8192, 1024]⟩
abbrev S8x9x1024 : Shape := ⟨3, ![8, 9, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x1024 : Shape := ⟨2, ![8, 1024]⟩
abbrev S1024x2816 : Shape := ⟨2, ![1024, 2816]⟩
abbrev S2816x1024 : Shape := ⟨2, ![2816, 1024]⟩
abbrev S8x8192x2816 : Shape := ⟨3, ![8, 8192, 2816]⟩
abbrev S65536x1024 : Shape := ⟨2, ![65536, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x9x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x8192x1024, .f32⟩
  | .hbm, ⟨33, _⟩ => ⟨S8x8192x1024, .f32⟩
  | .hbm, ⟨34, _⟩ => ⟨S8x1x1024, .f32⟩
  | .hbm, ⟨35, _⟩ => ⟨S8x8192x1024, .f32⟩
  | .hbm, ⟨36, _⟩ => ⟨S8x8192x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S1024x2816, .f32⟩
  | .hbm, ⟨44, _⟩ => ⟨S1024x2816, .f32⟩
  | .hbm, ⟨45, _⟩ => ⟨S2816x1024, .f32⟩
  | .hbm, ⟨46, _⟩ => ⟨S8x8192x2816, .f32⟩
  | .hbm, ⟨47, _⟩ => ⟨S8x8192x2816, .f32⟩
  | .hbm, ⟨48, _⟩ => ⟨S8x8192x2816, .f32⟩
  | .hbm, ⟨49, _⟩ => ⟨S_, .f32⟩
  | .hbm, ⟨50, _⟩ => ⟨S8x8192x2816, .f32⟩
  | .hbm, ⟨51, _⟩ => ⟨S8x8192x2816, .f32⟩
  | .hbm, ⟨52, _⟩ => ⟨S_, .f32⟩
  | .hbm, ⟨53, _⟩ => ⟨S8x8192x2816, .f32⟩
  | .hbm, ⟨54, _⟩ => ⟨S8x8192x2816, .f32⟩
  | .hbm, ⟨55, _⟩ => ⟨S8x8192x2816, .f32⟩
  | .hbm, ⟨56, _⟩ => ⟨S8x8192x2816, .f32⟩
  | .hbm, ⟨57, _⟩ => ⟨S8x8192x2816, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S8x8192x1024, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x8192x1, .f32⟩
  | .hbm, ⟨73, _⟩ => ⟨S8x8192x1024, .f32⟩
  | .hbm, ⟨74, _⟩ => ⟨S8x8192x1024, .f32⟩
  | .hbm, ⟨75, _⟩ => ⟨S1x1x1024, .f32⟩
  | .hbm, ⟨76, _⟩ => ⟨S8x8192x1024, .f32⟩
  | .hbm, ⟨77, _⟩ => ⟨S8x8192x1024, .f32⟩
  | .hbm, ⟨78, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel3.lean ====
abbrev S8x1024 : Shape := ⟨2, ![8, 1024]⟩
abbrev S1x1024x9216 : Shape := ⟨3, ![1, 1024, 9216]⟩
abbrev S1x9216 : Shape := ⟨2, ![1, 9216]⟩
abbrev S1024x9216 : Shape := ⟨2, ![1024, 9216]⟩
abbrev S9216 : Shape := ⟨1, ![9216]⟩
abbrev S8x9216 : Shape := ⟨2, ![8, 9216]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x9216, .f32⟩
  | .hbm, ⟨2, _⟩ => ⟨S1x9216, .f32⟩
  | .hbm, ⟨3, _⟩ => ⟨S1024x9216, .f32⟩
  | .hbm, ⟨4, _⟩ => ⟨S9216, .f32⟩
  | .hbm, ⟨5, _⟩ => ⟨S1x9216, .f32⟩
  | .hbm, ⟨6, _⟩ => ⟨S8x9216, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x1024 : Shape := ⟨2, ![8, 1024]⟩
abbrev S1x1024x9216 : Shape := ⟨3, ![1, 1024, 9216]⟩
abbrev S1x9216 : Shape := ⟨2, ![1, 9216]⟩
abbrev S_ : Shape := ⟨0, ![]⟩
abbrev S1024x9216 : Shape := ⟨2, ![1024, 9216]⟩
abbrev S8x9216 : Shape := ⟨2, ![8, 9216]⟩
abbrev S9216 : Shape := ⟨1, ![9216]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x9216, .f32⟩
  | .hbm, ⟨2, _⟩ => ⟨S1x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x9216, .f32⟩
  | .hbm, ⟨13, _⟩ => ⟨S8x9216, .f32⟩
  | .hbm, ⟨14, _⟩ => ⟨S9216, .f32⟩
  | .hbm, ⟨15, _⟩ => ⟨S1x9216, .f32⟩
  | .hbm, ⟨16, _⟩ => ⟨S8x9216, .f32⟩
  | .hbm, ⟨17, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Read.lean ====
/- Reading two-axis arrays as functions of two natural numbers.

   `At A f` says that the array `A` holds `f i j` at row `i`, column `j`. There is one lemma per vector operation: from
   what the operands read as to what the result reads as. A chain of operations is then read by applying them one after
   the other, and the function is found by unification. -/
module

public import Idealize.ShloMosaic.Lib.MatmulPlain
public import Idealize.ShloMosaic.Lib.ValueIdx
public import Idealize.ShloMosaic.Lib.Pipeline.Value

@[expose] public section

noncomputable section

namespace Cert.Rd

open Idealize.ShloMosaic Idealize.ShloMosaic.ValueIdx
open scoped BigOperators

/-- The shape of an `m × n` array. -/
abbrev S2 (m n : ℕ) : Shape := ⟨2, ![m, n]⟩

variable {α : Type} {m n k : ℕ}

/-- `A` holds `f i j` at `(i, j)`. -/
def At (A : (S2 m n).Idx → α) (f : ℕ → ℕ → α) : Prop := ∀ (i : Fin m) (j : Fin n), A (ix2 i j) = f i.val j.val

theorem At.congr {A : (S2 m n).Idx → α} {f g : ℕ → ℕ → α} (h : At A f) (e : ∀ i < m, ∀ j < n, f i j = g i j) : At A g :=
  fun i j => (h i j).trans (e i.val i.isLt j.val j.isLt)

theorem At.apply {A : (S2 m n).Idx → α} {f : ℕ → ℕ → α} (h : At A f) (i : (S2 m n).Idx) : A i = f (i 0).val (i 1).val := by
  conv_lhs => rw [eq_ix2 i]
  exact h _ _

theorem At.of_apply {A : (S2 m n).Idx → α} {f : ℕ → ℕ → α} (h : ∀ i, A i = f (i 0).val (i 1).val) : At A f :=
  fun i j => h (ix2 i j)

theorem At.ext {A B : (S2 m n).Idx → α} {f : ℕ → ℕ → α} (h : At A f) (h' : At B f) : A = B :=
  funext fun i => (h.apply i).trans (h'.apply i).symm

/-! ## Layout -/

theorem At.splat (x : α) : At (broadcast (S2 m n) x) (fun _ _ => x) := fun _ _ => rfl

theorem At.castSelf {A : (S2 m n).Idx → α} {f : ℕ → ℕ → α} (h : At A f) (hc : (S2 m n).ShapeCasts (S2 m n)) :
    At (shapeCast (S2 m n) A hc) f := by rw [shapeCast_self]; exact h

theorem At.slice {M N : ℕ} {A : (S2 M N).Idx → α} {f : ℕ → ℕ → α} (h : At A f) {o p : ℕ} (hs : (S2 M N).Slices ![o, p] (S2 m n)) :
    At (extractStridedSlice (S2 m n) ![o, p] A hs) (fun i j => f (o + i) (p + j)) := by
  intro i j
  have h0 : o + m ≤ M := hs.2 0
  have h1 : p + n ≤ N := hs.2 1
  rw [extractStridedSlice_apply ![o, p] A hs (ix2 i j) (ix2 ⟨o + i.val, by omega⟩ ⟨p + j.val, by omega⟩)
    (fun a => match a with | ⟨0, _⟩ => rfl | ⟨1, _⟩ => rfl)]
  exact h _ _

/-- A load of a rectangle is a slice. -/
theorem At.load {M N : ℕ} {e : EltTy} {Val : EltTy → Type} {A : (S2 M N).Idx → Val e} {f : ℕ → ℕ → Val e} (h : At A f) {o p : ℕ}
    (inb : ∀ a, ![o, p] a + ![m, n] a ≤ (S2 M N).size a) :
    At (m := m) (n := n) (View.ld A (Rect.unit (s := S2 M N) ![o, p] ![m, n] inb)) (fun i j => f (o + i) (p + j)) := by
  rw [View.ld_unit]; exact At.slice h _

/-- A `1 × n` row copied over `m` rows. -/
theorem At.bcastRow {A : (S2 1 n).Idx → α} {f : ℕ → ℕ → α} (h : At A f) (hb : (S2 1 n).Broadcasts (S2 m n)) :
    At (broadcastTo (S2 m n) A hb) (fun _ j => f 0 j) := by
  intro i j
  rw [broadcastTo_apply A hb (ix2 i j) (ix2 0 j) (fun a => by
    match a with
    | ⟨0, _⟩ => rfl
    | ⟨1, _⟩ =>
      show j.val = if n = 1 then 0 else j.val
      split
      · have := j.isLt; omega
      · rfl)]
  exact h _ _

/-- An `m × 1` column copied over `n` columns. -/
theorem At.bcastCol {A : (S2 m 1).Idx → α} {f : ℕ → ℕ → α} (h : At A f) (hb : (S2 m 1).Broadcasts (S2 m n)) :
    At (broadcastTo (S2 m n) A hb) (fun i _ => f i 0) := by
  intro i j
  rw [broadcastTo_apply A hb (ix2 i j) (ix2 i 0) (fun a => by
    match a with
    | ⟨0, _⟩ =>
      show i.val = if m = 1 then 0 else i.val
      split
      · have := i.isLt; omega
      · rfl
    | ⟨1, _⟩ => rfl)]
  exact h _ _

/-! ## Three axes -/

/-- The shape of an `l × m × n` array. -/
abbrev S3 (l m n : ℕ) : Shape := ⟨3, ![l, m, n]⟩

/-- `A` holds `f i j k` at `(i, j, k)`. -/
def At3 {l m n : ℕ} (A : (S3 l m n).Idx → α) (f : ℕ → ℕ → ℕ → α) : Prop :=
  ∀ (i : Fin l) (j : Fin m) (k : Fin n), A (ix3 i j k) = f i.val j.val k.val

theorem At3.apply {l m n : ℕ} {A : (S3 l m n).Idx → α} {f : ℕ → ℕ → ℕ → α} (h : At3 A f) (i : (S3 l m n).Idx) :
    A i = f (i 0).val (i 1).val (i 2).val := by
  conv_lhs => rw [eq_ix3 i]
  exact h _ _ _

theorem At3.of_apply {l m n : ℕ} {A : (S3 l m n).Idx → α} {f : ℕ → ℕ → ℕ → α}
    (h : ∀ i, A i = f (i 0).val (i 1).val (i 2).val) : At3 A f := fun i j k => h (ix3 i j k)

/-- One matrix of a stack, loaded by itself. -/
theorem At3.loadPlane {L M N m n : ℕ} {e : EltTy} {Val : EltTy → Type} {A : (S3 L M N).Idx → Val e} {f : ℕ → ℕ → ℕ → Val e}
    (h : At3 A f) {l o p : ℕ} (inb : ∀ a, ![l, o, p] a + ![1, m, n] a ≤ (S3 L M N).size a) (hc : (S3 1 m n).ShapeCasts (S2 m n)) :
    At (shapeCast (S2 m n) (View.ld A (Rect.unit (s := S3 L M N) ![l, o, p] ![1, m, n] inb)) hc)
      (fun i j => f l (o + i) (p + j)) := by
  intro i j; beta_reduce
  have h0 : l + 1 ≤ L := inb 0
  have h1 : o + m ≤ M := inb 1
  have h2 : p + n ≤ N := inb 2
  rw [shapeCast_apply (s := S3 1 m n) _ hc (ix2 i j) (ix3 0 i j) (by
    rw [Shape.rowMajor_val_three, Shape.rowMajor_val_two]
    show (0 * m + i.val) * n + j.val = i.val * n + j.val
    rw [Nat.zero_mul, Nat.zero_add])]
  rw [View.ld_unit]
  refine (extractStridedSlice_apply (t := S3 1 m n) ![l, o, p] A ⟨rfl, inb⟩ (ix3 0 i j)
    (ix3 ⟨l, by omega⟩ ⟨o + i.val, by omega⟩ ⟨p + j.val, by omega⟩)
    (fun a => by match a with | ⟨0, _⟩ => rfl | ⟨1, _⟩ => rfl | ⟨2, _⟩ => rfl)).trans ?_
  exact h _ _ _

/-! ## Arrays as functions, and reshapes -/

/-- The function a two-axis array holds, zero outside. -/
def rd2 (A : (S2 m n).Idx → EReal) (i j : ℕ) : EReal := if h : i < m ∧ j < n then A (ix2 ⟨i, h.1⟩ ⟨j, h.2⟩) else 0
theorem at_rd2 (A : (S2 m n).Idx → EReal) : At A (rd2 A) := fun i j => by rw [rd2, dif_pos ⟨i.isLt, j.isLt⟩]
/-- The function a three-axis array holds, zero outside. -/
def rd3 {l m n : ℕ} (A : (S3 l m n).Idx → EReal) (i j k : ℕ) : EReal :=
  if h : i < l ∧ j < m ∧ k < n then A (ix3 ⟨i, h.1⟩ ⟨j, h.2.1⟩ ⟨k, h.2.2⟩) else 0
theorem at_rd3 {l m n : ℕ} (A : (S3 l m n).Idx → EReal) : At3 A (rd3 A) :=
  fun i j k => by rw [rd3, dif_pos ⟨i.isLt, j.isLt, k.isLt⟩]

/-- The function a vector holds, zero outside. -/
def rd1 (A : Shape.Idx ⟨1, ![n]⟩ → EReal) (i : ℕ) : EReal := if h : i < n then A (ix1 ⟨i, h⟩) else 0
theorem at_rd1 (A : Shape.Idx ⟨1, ![n]⟩ → EReal) (i : Fin n) : A (ix1 i) = rd1 A i.val := by rw [rd1, dif_pos i.isLt]

/-- A stack of matrices laid out as one tall matrix. -/
theorem At3.flatten {l m n M : ℕ} {A : (S3 l m n).Idx → α} {f : ℕ → ℕ → ℕ → α} (h : At3 A f) (hc : (S3 l m n).ShapeCasts (S2 M n))
    (hM : M = l * m) : At (shapeCast (S2 M n) A hc) (fun r d => f (r / m) (r % m) d) := by
  subst hM
  intro i j; beta_reduce
  have hm : 0 < m := Nat.pos_of_ne_zero fun h0 => by have := i.isLt; simp [h0] at this
  have hl : i.val / m < l := Nat.div_lt_of_lt_mul (lt_of_lt_of_eq i.isLt (Nat.mul_comm l m))
  rw [shapeCast_apply (s := S3 l m n) _ hc (ix2 i j) (ix3 ⟨i.val / m, hl⟩ ⟨i.val % m, Nat.mod_lt _ hm⟩ j) (by
    rw [Shape.rowMajor_val_three, Shape.rowMajor_val_two]
    show (i.val / m * m + i.val % m) * n + j.val = i.val * n + j.val
    rw [Nat.div_add_mod'])]
  exact h _ _ _

/-- A stack of one matrix, reshaped to the matrix. -/
theorem At3.plane {A : (S3 1 m n).Idx → α} {f : ℕ → ℕ → ℕ → α} (h : At3 A f) (hc : (S3 1 m n).ShapeCasts (S2 m n)) :
    At (shapeCast (S2 m n) A hc) (f 0) :=
  (At3.flatten h hc (Nat.one_mul m).symm).congr fun i hi j _ => by rw [Nat.div_eq_of_lt hi, Nat.mod_eq_of_lt hi]

/-- A vector reshaped to a row. -/
theorem At.vecRow {A : Shape.Idx ⟨1, ![n]⟩ → α} {f : ℕ → α} (h : ∀ j : Fin n, A (ix1 j) = f j.val)
    (hc : Shape.ShapeCasts ⟨1, ![n]⟩ (S2 1 n)) : At (shapeCast (S2 1 n) A hc) (fun _ => f) := by
  intro i j
  rw [shapeCast_apply _ hc (ix2 i j) (ix1 j) (by
    rw [Shape.rowMajor_val_one, Shape.rowMajor_val_two]
    show j.val = i.val * n + j.val
    have := i.isLt; rw [show i.val = 0 by omega]; omega)]
  exact h j

/-- A row reshaped to a vector and back. -/
theorem At.rowVecRow {A : (S2 1 n).Idx → α} {f : ℕ → ℕ → α} (h : At A f) (h1 : (S2 1 n).ShapeCasts ⟨1, ![n]⟩)
    (h2 : Shape.ShapeCasts ⟨1, ![n]⟩ (S2 1 n)) : At (shapeCast (S2 1 n) (shapeCast ⟨1, ![n]⟩ A h1) h2) f := by
  intro i j
  rw [shapeCast_apply _ h2 (ix2 i j) (ix1 j) (by
    rw [Shape.rowMajor_val_one, Shape.rowMajor_val_two]
    show j.val = i.val * n + j.val
    have := i.isLt; rw [show i.val = 0 by omega]; omega), shapeCast_apply _ h1 (ix1 j) (ix2 i j) (by
    rw [Shape.rowMajor_val_one, Shape.rowMajor_val_two]
    show i.val * n + j.val = j.val
    have := i.isLt; rw [show i.val = 0 by omega]; omega)]
  exact h _ _

/-! ## Arithmetic on the extended reals -/

section Arith
variable {φ : FTy} {A B : FVec Ideal (S2 m n) φ} {f g : ℕ → ℕ → EReal}

theorem At.addf (hA : At A f) (hB : At B g) : At (addf A B) (fun i j => f i j + g i j) :=
  fun i j => congrArg₂ (· + ·) (hA i j) (hB i j)
theorem At.mulf (hA : At A f) (hB : At B g) : At (mulf A B) (fun i j => f i j * g i j) :=
  fun i j => congrArg₂ (· * ·) (hA i j) (hB i j)
theorem At.divf (hA : At A f) (hB : At B g) : At (divf A B) (fun i j => Ideal.div (f i j) (g i j)) :=
  fun i j => congrArg₂ Ideal.div (hA i j) (hB i j)
theorem At.rsqrt (hA : At A f) : At (rsqrt A) (fun i j => Ideal.rsqrt (f i j)) := fun i j => congrArg Ideal.rsqrt (hA i j)
theorem At.logistic (hA : At A f) : At (logistic A) (fun i j => Ideal.logistic (f i j)) := fun i j => congrArg Ideal.logistic (hA i j)
theorem At.truncf {ψ : FTy} (hA : At A f) (hψ : ψ.bits < φ.bits) : At (α := EReal) (truncf ψ A hψ) f := fun i j => hA i j

/-- A plain matrix product into zeros. -/
theorem At.matmul {φ₁ φ₂ : FTy} {L : FVec Ideal (S2 m k) φ₁} {R : FVec Ideal (S2 k n) φ₂} {f g : ℕ → ℕ → EReal}
    (hL : At (α := EReal) L f) (hR : At (α := EReal) R g) (d : DotDims (S2 m k) (S2 k n) (S2 m n)) (hd : d = DotDims.plain m k n)
    (prec : Option ContractPrecision) :
    At (α := EReal) (Idealize.ShloMosaic.matmul d prec L R (constant (S2 m n) .f32 0x00000000#32))
      (fun i j => ∑ l ∈ Finset.range k, f i l * g l j) := by
  intro i j; beta_reduce
  subst hd
  show FloatOps.matmul _ prec L R _ _ = _
  rw [Ideal.matmul_plain_apply, Finset.sum_range, ValueIdx.constant_apply, Ideal.ofBits_zero_f32, zero_add]
  exact Finset.sum_congr rfl fun l _ => congrArg₂ (· * ·) (hL i l) (hR l j)

/-- Row sums, kept as a column. -/
theorem At.rowSum (hA : At A f) {acc : BitVec φ.bits} (hr : (S2 m n).Reduces [1] ⟨1, ![m]⟩) (hφ : FKind.Formats φ)
    (hacc : acc = FKind.add.neutral φ hφ) (hc : Shape.ShapeCasts ⟨1, ![m]⟩ (S2 m 1)) :
    At (α := EReal) (shapeCast (S2 m 1) (multiReduction .add [1] ⟨1, ![m]⟩ A acc hr hφ hacc) hc)
      (fun i _ => ∑ l ∈ Finset.range n, f i l) := by
  intro i j; beta_reduce
  rw [shapeCast_apply _ hc (ix2 i j) (ix1 i) (by
    rw [Shape.rowMajor_val_one, Shape.rowMajor_val_two]
    show i.val = i.val * 1 + j.val
    have := j.isLt; omega), Ideal.multiReduction_add_single, Finset.sum_range]
  refine Finset.sum_congr rfl fun l _ => ?_
  have e : hr.lift (ix1 i) l = ix2 i l := by
    funext b
    match b with
    | ⟨0, _⟩ => rfl
    | ⟨1, _⟩ => rfl
  rw [e]; exact hA i l

end Arith

end Cert.Rd

end
-- ==== Proof.Spec.lean ====
/- The feed-forward half-step, one row at a time, on the extended reals. -/
module

public import Idealize.ShloMosaic.PureOps.Ideal.Laws

@[expose] public section

noncomputable section

namespace Cert.Spec

open Idealize.ShloMosaic
open scoped BigOperators

/-- The small constant added under the square root of a mean square. -/
def eps : EReal := Ideal.ofBits .f32 0x358637BD#32
/-- The width of a row. -/
def width : EReal := Ideal.ofBits .f32 0x44800000#32
/-- One. -/
def one : EReal := Ideal.ofBits .f32 0x3F800000#32
/-- One half. -/
def half : EReal := Ideal.ofBits .f32 0x3F000000#32

/-- A row of 1024 over its root mean square, times the gain. -/
def rms (x gain : ℕ → EReal) (d : ℕ) : EReal :=
  x d * Ideal.rsqrt (Ideal.div (∑ l ∈ Finset.range 1024, x l * x l) width + eps) * gain d

/-- The normalised row, scaled and shifted. -/
def normMod (x gain scale shift : ℕ → EReal) (d : ℕ) : EReal := rms x gain d * (one + scale d) + shift d

/-- A row of 1024 times a matrix. -/
def rowDot (h : ℕ → EReal) (w : ℕ → ℕ → EReal) (f : ℕ) : EReal := ∑ l ∈ Finset.range 1024, h l * w l f

/-- The hidden value of the gated unit. -/
def hidden (h : ℕ → EReal) (wg wu : ℕ → ℕ → EReal) (f : ℕ) : EReal :=
  rowDot h wg f * Ideal.logistic (rowDot h wg f) * rowDot h wu f

/-- The gated unit. -/
def swiglu (h : ℕ → EReal) (wg wu wd : ℕ → ℕ → EReal) (d : ℕ) : EReal :=
  ∑ f ∈ Finset.range 2816, hidden h wg wu f * wd f d

/-- Half a step of the gated unit's output added to the row. -/
def halfStep (x h gate : ℕ → EReal) (wg wu wd : ℕ → ℕ → EReal) (d : ℕ) : EReal :=
  x d + half * gate d * swiglu h wg wu wd d

end Cert.Spec

end
-- ==== Proof.Ffn1.lean ====
/- The first feed-forward half-step: what the kernel's body leaves for a block of 1024 rows. -/
module

public import proofs.«01_k».proof.Proof.Gen.Kernel2Ideal.Value
public import proofs.«01_k».proof.Proof.Read
public import proofs.«01_k».proof.Proof.Spec
public import Idealize.ShloMosaic.Lib.Pipeline.ValueKit

@[expose] public section

noncomputable section

namespace Cert.Ffn1

open Cert.Kernel2Ideal Cert.Kernel2Ideal.Gen Cert.Rd Cert.Spec Idealize.ShloMosaic Idealize.ShloMosaic.ValueIdx

/-- The row the half-step makes of row `i`, from the block's rows, its nine modulation vectors, the gain and the weights. -/
def row (X : ℕ → ℕ → EReal) (M : ℕ → ℕ → ℕ → EReal) (G WG WU WD : ℕ → ℕ → EReal) (i d : ℕ) : EReal :=
  halfStep (X i) (normMod (X i) (G 0) (M 0 1) (M 0 0)) (M 0 2) WG WU WD d

variable {x0 : Vec Ideal S1024x1024 .f32} {x1 : Vec Ideal S1x9x1024 .f32} {x2 x6 : Vec Ideal S1x1024 .f32}
  {x3 x4 : Vec Ideal S1024x2816 .bf16} {x5 : Vec Ideal S2816x1024 .bf16}
  {X G WG WU WD F : ℕ → ℕ → EReal} {M : ℕ → ℕ → ℕ → EReal}

set_option maxHeartbeats 4000000 in
/-- The four stores, 256 rows each, together hold every row of the block. Each stored value is read by one lemma per operation. -/
theorem out_at (h0 : At (α := EReal) x0 X) (h1 : At3 (α := EReal) x1 M) (h2 : At (α := EReal) x2 G) (h3 : At (α := EReal) x3 WG)
    (h4 : At (α := EReal) x4 WU) (h5 : At (α := EReal) x5 WD) (h6 : At (α := EReal) x6 F) :
    At (α := EReal) (out0_7 x0 x1 x2 x3 x4 x5 x6) (row X M G WG WU WD) := by
  apply At.of_apply
  intro y
  refine View.canon_eq_of_allAt _ y _ (cover0_7 _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    have e0 := hx 0
    have e1 := hx 1
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, Scalar.ofBits]
    apply Eq.trans
    · apply At.apply
      repeat' first
        | (with_reducible first
          | apply At.addf | apply At.mulf | apply At.divf | apply At.rsqrt | apply At.logistic | apply At.bcastRow
          | apply At.bcastCol | apply At.matmul | apply At.splat | exact At.load h0 _ | exact At3.loadPlane h1 _ _
          | exact At.load h2 _ | exact At.load h3 _ | exact At.load h4 _ | exact At.load h5 _ | exact At.load h6 _
          | apply At.castSelf | apply At.slice | apply At.truncf)
        | apply At.rowSum | exact rfl
    · rw [e0, e1]
      simp only [Nat.zero_add, Matrix.cons_val_zero, Matrix.cons_val_one, Matrix.cons_val_fin_one]
      rfl

end Cert.Ffn1

end
-- ==== Proof.Ffn1Ref.lean ====
/- The first feed-forward half-step: what the reference computes, read entry by entry. -/
module

public import proofs.«01_k».proof.Proof.Gen.Reference2Ideal.Read
public import proofs.«01_k».proof.Proof.Read
public import proofs.«01_k».proof.Proof.Spec
public import Idealize.ShloMosaic.Lib.IdealHost

@[expose] public section

noncomputable section

namespace Cert.Ffn1Ref

open Cert.Reference2Ideal Cert.Reference2Ideal.Gen Cert.Reference2Ideal.Read Cert.Rd Cert.Spec Idealize.ShloMosaic Idealize.ShloMosaic.ValueIdx Idealize.ShloMosaic.TcCoe

/-- Row `t` of sequence `b`, normalised and modulated. -/
def hid (X M : ℕ → ℕ → ℕ → EReal) (G : ℕ → ℕ → EReal) (b t : ℕ) : ℕ → EReal := normMod (X b t) (G 0) (M b 1) (M b 0)

variable {x0 : (⟨S8x8192x1024, .f32⟩ : BufTy).Contents (Elt Ideal)} {x1 : (⟨S8x9x1024, .f32⟩ : BufTy).Contents (Elt Ideal)}
  {x2 : (⟨S1x1024, .f32⟩ : BufTy).Contents (Elt Ideal)} {x3 x4 : (⟨S1x1024x2816, .f32⟩ : BufTy).Contents (Elt Ideal)}
  {x5 : (⟨S1x2816x1024, .f32⟩ : BufTy).Contents (Elt Ideal)} {X M WG WU WD : ℕ → ℕ → ℕ → EReal} {G : ℕ → ℕ → EReal}

theorem v25_at (h0 : At3 (α := EReal) x0 X) (h1 : At3 (α := EReal) x1 M) (h2 : At (α := EReal) x2 G) :
    At3 (α := EReal) (l := 8) (m := 8192) (n := 1024) (val_main_v25 (F := Ideal) x0 x1 x2) (hid X M G) := by
  apply At3.of_apply
  intro i
  have hd : (i 2).val < 1024 := (i 2).isLt
  simp only [val_main_v25_apply, val_main_v24_apply, val_main_v23_apply, val_main_v22_apply, val_main_v21_apply, val_main_v20_apply,
    val_main_v19_apply, val_main_cst_2_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_cst_1_apply, val_main_v5_apply, val_main_v4_apply,
    val_main_cst_0_apply, val_main_v3_apply, val_main_v2_apply, val_main_v1_apply, val_main_cst_apply, val_main_v0_apply,
    h0.apply, h1.apply, h2.apply, show ((i 0).val * 1024 + (i 2).val) / 1024 = (i 0).val by omega,
    show ((i 0).val * 1024 + (i 2).val) % 1024 = (i 2).val by omega, Nat.mod_eq_of_lt hd]
  rw [show (FloatOps.ofBits (F := Ideal) FTy.f32 0#32) = (0 : EReal) from Ideal.ofBits_zero_f32, zero_add]
  unfold hid normMod rms
  rw [Finset.sum_range]
  rfl

theorem v31_at (h3 : At3 (α := EReal) x3 WG) : At (α := EReal) (m := 1024) (n := 2816) (val_main_v31 (F := Ideal) x3) (WG 0) := At3.plane h3 _
theorem v32_at (h4 : At3 (α := EReal) x4 WU) : At (α := EReal) (m := 1024) (n := 2816) (val_main_v32 (F := Ideal) x4) (WU 0) := At3.plane h4 _
theorem v33_at (h5 : At3 (α := EReal) x5 WD) : At (α := EReal) (m := 2816) (n := 1024) (val_main_v33 (F := Ideal) x5) (WD 0) := At3.plane h5 _

theorem v34_at (h0 : At3 (α := EReal) x0 X) (h1 : At3 (α := EReal) x1 M) (h2 : At (α := EReal) x2 G) (h3 : At3 (α := EReal) x3 WG) :
    At3 (α := EReal) (l := 8) (m := 8192) (n := 2816) (val_main_v34 (F := Ideal) x0 x1 x2 x3)
      (fun b t f => rowDot (hid X M G b t) (WG 0) f) := by
  apply At3.of_apply
  intro i
  simp only [val_main_v34_apply, (v31_at h3).apply, (v25_at h0 h1 h2).apply]
  unfold rowDot
  rw [Finset.sum_range]

theorem v36_at (h0 : At3 (α := EReal) x0 X) (h1 : At3 (α := EReal) x1 M) (h2 : At (α := EReal) x2 G) (h4 : At3 (α := EReal) x4 WU) :
    At3 (α := EReal) (l := 8) (m := 8192) (n := 2816) (val_main_v36 (F := Ideal) x0 x1 x2 x4)
      (fun b t f => rowDot (hid X M G b t) (WU 0) f) := by
  apply At3.of_apply
  intro i
  simp only [val_main_v36_apply, (v32_at h4).apply, (v25_at h0 h1 h2).apply]
  unfold rowDot
  rw [Finset.sum_range]

theorem v37_at (h0 : At3 (α := EReal) x0 X) (h1 : At3 (α := EReal) x1 M) (h2 : At (α := EReal) x2 G) (h3 : At3 (α := EReal) x3 WG)
    (h4 : At3 (α := EReal) x4 WU) :
    At3 (α := EReal) (l := 8) (m := 8192) (n := 2816) (val_main_v37 (F := Ideal) x0 x1 x2 x3 x4)
      (fun b t f => hidden (hid X M G b t) (WG 0) (WU 0) f) := by
  apply At3.of_apply
  intro i
  simp only [val_main_v37_apply, val_main_v35_apply, val_main_call0_v5_apply, val_main_call0_v4_apply, val_main_call0_cst_0_apply,
    val_main_call0_v3_apply, val_main_call0_v2_apply, val_main_call0_cst_apply, val_main_call0_v1_apply, val_main_call0_v0_apply,
    (v34_at h0 h1 h2 h3).apply, (v36_at h0 h1 h2 h4).apply]
  rw [show (FloatOps.ofBits (F := Ideal) FTy.f32 1065353216#32) = (1 : EReal) from Ideal.ofBits_one_f32]
  rfl

/-- The result, before its rows are laid out in one matrix. -/
theorem v41_at (h0 : At3 (α := EReal) x0 X) (h1 : At3 (α := EReal) x1 M) (h2 : At (α := EReal) x2 G) (h3 : At3 (α := EReal) x3 WG)
    (h4 : At3 (α := EReal) x4 WU) (h5 : At3 (α := EReal) x5 WD) :
    At3 (α := EReal) (l := 8) (m := 8192) (n := 1024) (val_main_v41 (F := Ideal) x0 x1 x2 x3 x4 x5)
      (fun b t d => halfStep (X b t) (hid X M G b t) (M b 2) (WG 0) (WU 0) (WD 0) d) := by
  apply At3.of_apply
  intro i
  have hd : (i 2).val < 1024 := (i 2).isLt
  simp only [val_main_v41_apply, val_main_v40_apply, val_main_v39_apply, val_main_v38_apply, val_main_v30_apply,
    val_main_v29_apply, val_main_cst_3_apply, val_main_v28_apply, val_main_v27_apply, val_main_v26_apply,
    (v37_at h0 h1 h2 h3 h4).apply, h0.apply, h1.apply, (v33_at h5).apply, show ((i 0).val * 1024 + (i 2).val) / 1024 = (i 0).val by omega,
    show ((i 0).val * 1024 + (i 2).val) % 1024 = (i 2).val by omega]
  unfold halfStep swiglu
  rw [Finset.sum_range]
  rfl

/-- The result. -/
theorem v42_at (h0 : At3 (α := EReal) x0 X) (h1 : At3 (α := EReal) x1 M) (h2 : At (α := EReal) x2 G) (h3 : At3 (α := EReal) x3 WG)
    (h4 : At3 (α := EReal) x4 WU) (h5 : At3 (α := EReal) x5 WD) :
    At (α := EReal) (m := 65536) (n := 1024) (val_main_v42 (F := Ideal) x0 x1 x2 x3 x4 x5)
      (fun r d => halfStep (X (r / 8192) (r % 8192)) (hid X M G (r / 8192) (r % 8192)) (M (r / 8192) 2) (WG 0) (WU 0) (WD 0) d) :=
  At3.flatten (v41_at h0 h1 h2 h3 h4 h5) _ rfl

end Cert.Ffn1Ref

end
-- ==== Proof.Ffn1Value.lean ====
/- The first feed-forward half-step: the kernel's result array, read off its blocks, and its agreement with the reference. -/
module

public import proofs.«01_k».proof.Defs
public import proofs.«01_k».proof.Proof.Ffn1
public import proofs.«01_k».proof.Proof.Ffn1Ref
public import Idealize.ShloMosaic.Lib.Claim

@[expose] public section

noncomputable section

namespace Cert.Ffn1

open Cert.Kernel2Ideal Cert.Kernel2Ideal.Gen Cert.Rd Cert.Spec Idealize.ShloMosaic Idealize.ShloMosaic.ValueIdx Idealize.ShloMosaic.TcCoe

/-- One entry of the half-step's result, from the functions the argument arrays hold. -/
def out (X M : ℕ → ℕ → ℕ → EReal) (G : ℕ → ℕ → EReal) (WG WU WD : ℕ → ℕ → ℕ → EReal) (b t d : ℕ) : EReal :=
  halfStep (X b t) (normMod (X b t) (G 0) (M b 1) (M b 0)) (M b 2) (WG 0) (WU 0) (WD 0) d

section Array
variable (m : (ℓ : Loc nD τ sig) → Buf (Elt Ideal) ℓ) (c : Dev nD) {X M WG WU WD : ℕ → ℕ → ℕ → EReal} {G F : ℕ → ℕ → EReal}

theorem V0 (h : ∀ j : Fin 1024, m ((c.tc : Thread nD τ).loc main_arg6) (ValueIdx.ix1 j) = F 0 j.val) :
    At (α := EReal) (V m c main_v0) (fun _ => F 0) := by
  entry_read; exact At.vecRow h _
theorem V1 (h : At3 (α := EReal) (m ((c.tc : Thread nD τ).loc main_arg0)) X) :
    At (α := EReal) (V m c main_v1) (fun r d => X (r / 8192) (r % 8192) d) := by
  entry_read; exact At3.flatten h _ rfl
theorem V3 (h : At (α := EReal) (m ((c.tc : Thread nD τ).loc main_arg2)) G) : At (α := EReal) (V m c main_v3) G := by
  entry_read; exact At.rowVecRow h _ _
theorem V5 (h : At3 (α := EReal) (m ((c.tc : Thread nD τ).loc main_arg3)) WG) : At (α := EReal) (V m c main_v5) (WG 0) := by
  entry_read; exact At.truncf (At3.plane h _) _
theorem V7 (h : At3 (α := EReal) (m ((c.tc : Thread nD τ).loc main_arg4)) WU) : At (α := EReal) (V m c main_v7) (WU 0) := by
  entry_read; exact At.truncf (At3.plane h _) _
theorem V9 (h : At3 (α := EReal) (m ((c.tc : Thread nD τ).loc main_arg5)) WD) : At (α := EReal) (V m c main_v9) (WD 0) := by
  entry_read; exact At.truncf (At3.plane h _) _

theorem index0 : ∀ t : Fin cfg0.N, win0_0.index t = ![t.val, 0] := by decide +kernel
theorem index1 : ∀ t : Fin cfg0.N, win0_1.index t = ![t.val / 8, 0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel

theorem blk0 (t : Fin cfg0.N) (h : At3 (α := EReal) (m ((c.tc : Thread nD τ).loc main_arg0)) X) :
    At (α := EReal) (m := 1024) (n := 1024) (iblk m c 0 t) (fun i d => X ((t.val * 1024 + i) / 8192) ((t.val * 1024 + i) % 8192) d) := by
  apply At.of_apply
  intro y
  refine ((V1 m c h).apply (((cfg0.win 0).blk t).view.emb y)).trans ?_
  blk_simp [index0]

theorem blk1 (t : Fin cfg0.N) (h : At3 (α := EReal) (m ((c.tc : Thread nD τ).loc main_arg1)) M) :
    At3 (α := EReal) (l := 1) (m := 9) (n := 1024) (iblk m c 1 t) (fun i j d => M (t.val / 8 + i) j d) := by
  apply At3.of_apply
  intro y
  refine (congrFun (V_main_arg1 m c) (((cfg0.win 1).blk t).view.emb y)).trans ((h.apply (((cfg0.win 1).blk t).view.emb y)).trans ?_)
  blk_simp [index1]

theorem blk2 (t : Fin cfg0.N) (h : At (α := EReal) (m ((c.tc : Thread nD τ).loc main_arg2)) G) :
    At (α := EReal) (m := 1) (n := 1024) (iblk m c 2 t) G := by
  apply At.of_apply
  intro y
  refine ((V3 m c h).apply (((cfg0.win 2).blk t).view.emb y)).trans ?_
  blk_simp [index2]

theorem blk3 (t : Fin cfg0.N) (h : At3 (α := EReal) (m ((c.tc : Thread nD τ).loc main_arg3)) WG) :
    At (α := EReal) (m := 1024) (n := 2816) (iblk m c 3 t) (WG 0) := by
  apply At.of_apply
  intro y
  refine ((V5 m c h).apply (((cfg0.win 3).blk t).view.emb y)).trans ?_
  blk_simp [index3]

theorem blk4 (t : Fin cfg0.N) (h : At3 (α := EReal) (m ((c.tc : Thread nD τ).loc main_arg4)) WU) :
    At (α := EReal) (m := 1024) (n := 2816) (iblk m c 4 t) (WU 0) := by
  apply At.of_apply
  intro y
  refine ((V7 m c h).apply (((cfg0.win 4).blk t).view.emb y)).trans ?_
  blk_simp [index4]

theorem blk5 (t : Fin cfg0.N) (h : At3 (α := EReal) (m ((c.tc : Thread nD τ).loc main_arg5)) WD) :
    At (α := EReal) (m := 2816) (n := 1024) (iblk m c 5 t) (WD 0) := by
  apply At.of_apply
  intro y
  refine ((V9 m c h).apply (((cfg0.win 5).blk t).view.emb y)).trans ?_
  blk_simp [index5]

theorem blk6 (t : Fin cfg0.N) (h : ∀ j : Fin 1024, m ((c.tc : Thread nD τ).loc main_arg6) (ValueIdx.ix1 j) = F 0 j.val) :
    At (α := EReal) (m := 1) (n := 1024) (iblk m c 6 t) (fun _ => F 0) := by
  apply At.of_apply
  intro y
  refine ((V0 m c h).apply (((cfg0.win 6).blk t).view.emb y)).trans ?_
  blk_simp [index6]

/-- The result array holds the result of every row. -/
theorem arr_at (h0 : At3 (α := EReal) (m ((c.tc : Thread nD τ).loc main_arg0)) X)
    (h1 : At3 (α := EReal) (m ((c.tc : Thread nD τ).loc main_arg1)) M)
    (h2 : At (α := EReal) (m ((c.tc : Thread nD τ).loc main_arg2)) G)
    (h3 : At3 (α := EReal) (m ((c.tc : Thread nD τ).loc main_arg3)) WG)
    (h4 : At3 (α := EReal) (m ((c.tc : Thread nD τ).loc main_arg4)) WU)
    (h5 : At3 (α := EReal) (m ((c.tc : Thread nD τ).loc main_arg5)) WD)
    (h6 : ∀ j : Fin 1024, m ((c.tc : Thread nD τ).loc main_arg6) (ValueIdx.ix1 j) = F 0 j.val) :
    At (α := EReal) (m := 65536) (n := 1024) ((dats m 0 c).arrAt 7 cfg0.N)
      (fun r d => out X M G WG WU WD (r / 8192) (r % 8192) d) := by
  apply At.of_apply
  intro i
  refine congrFun (a := i) ((dats m 0 c).arrAt_eq_of_covers 7 (fun i => out X M G WG WU WD ((i 0).val / 8192) ((i 0).val % 8192) (i 1).val)
    (by decide +kernel) fun t _ y => ?_)
  blk_simp [index7]
  rw [after0_7]
  refine ((out_at (blk0 m c t h0) (blk1 m c t h1) (blk2 m c t h2) (blk3 m c t h3) (blk4 m c t h4) (blk5 m c t h5)
    (blk6 m c t h6)).apply y).trans ?_
  have hy : (y 0).val < 1024 := (y 0).isLt
  have ht : t.val < 64 := t.isLt
  have e : (t.val * 1024 + (y 0).val) / 8192 = t.val / 8 := by omega
  unfold row out
  beta_reduce
  rw [e, Nat.add_zero]
end Array

/-- The kernel and the reference leave the same result. -/
theorem algebraic [Cert.Kernel2Ideal.Facts] [Cert.Reference2Ideal.Facts] : Cert.algebraic_Kernel2Ideal_Reference2Ideal := by
  intro m g m' g' _ hm
  refine ⟨fun c => (dats m 0 c).arrAt 7 cfg0.N, Cert.Kernel2Ideal.Value.run_blocks m g, ?_⟩
  refine (θ_run _ _ _).mono (fun r h c => ⟨(h c).1.trans ?_, (h c).2⟩) (Cert.Reference2Ideal.Value.run (F := Ideal) m' g')
  obtain ⟨e0, e1, e2, e3, e4, e5, e6⟩ := hm c
  rw [Cert.Reference2Ideal.Read.val_main_v42_eq, e0, e1, e2, e3, e4, e5]
  exact (Cert.Ffn1Ref.v42_at (at_rd3 _) (at_rd3 _) (at_rd2 _) (at_rd3 _) (at_rd3 _) (at_rd3 _)).ext
    (arr_at (F := fun _ => rd1 (m ((c.tc : Thread nD τ).loc main_arg6))) m c (at_rd3 _) (at_rd3 _) (at_rd2 _) (at_rd3 _) (at_rd3 _) (at_rd3 _) (at_rd1 _))

end Cert.Ffn1

end
-- ==== Proof.Ffn2.lean ====
/- The second feed-forward half-step and the closing norm: what the kernel's body leaves for a block of 1024 rows. -/
module

public import proofs.«01_k».proof.Proof.Gen.Kernel4Ideal.Value
public import proofs.«01_k».proof.Proof.Read
public import proofs.«01_k».proof.Proof.Spec
public import Idealize.ShloMosaic.Lib.Pipeline.ValueKit

@[expose] public section

noncomputable section

namespace Cert.Ffn2

open Cert.Kernel4Ideal Cert.Kernel4Ideal.Gen Cert.Rd Cert.Spec Idealize.ShloMosaic Idealize.ShloMosaic.ValueIdx

/-- The row the half-step and the norm make of row `i`, from the block's rows, its nine modulation vectors, the gains and the weights. -/
def row (X : ℕ → ℕ → EReal) (M : ℕ → ℕ → ℕ → EReal) (G WG WU WD F : ℕ → ℕ → EReal) (i d : ℕ) : EReal :=
  rms (halfStep (X i) (normMod (X i) (G 0) (M 0 7) (M 0 6)) (M 0 8) WG WU WD) (F 0) d

variable {x0 : Vec Ideal S1024x1024 .f32} {x1 : Vec Ideal S1x9x1024 .f32} {x2 x6 : Vec Ideal S1x1024 .f32}
  {x3 x4 : Vec Ideal S1024x2816 .bf16} {x5 : Vec Ideal S2816x1024 .bf16}
  {X G WG WU WD F : ℕ → ℕ → EReal} {M : ℕ → ℕ → ℕ → EReal}

set_option maxHeartbeats 4000000 in
/-- The four stores, 256 rows each, together hold every row of the block. Each stored value is read by one lemma per operation. -/
theorem out_at (h0 : At (α := EReal) x0 X) (h1 : At3 (α := EReal) x1 M) (h2 : At (α := EReal) x2 G) (h3 : At (α := EReal) x3 WG)
    (h4 : At (α := EReal) x4 WU) (h5 : At (α := EReal) x5 WD) (h6 : At (α := EReal) x6 F) :
    At (α := EReal) (out0_7 x0 x1 x2 x3 x4 x5 x6) (row X M G WG WU WD F) := by
  apply At.of_apply
  intro y
  refine View.canon_eq_of_allAt _ y _ (cover0_7 _ _ _ _ y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  all_goals
    have e0 := hx 0
    have e1 := hx 1
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, Scalar.ofBits]
    apply Eq.trans
    · apply At.apply
      repeat' first
        | (with_reducible first
          | apply At.addf | apply At.mulf | apply At.divf | apply At.rsqrt | apply At.logistic | apply At.bcastRow
          | apply At.bcastCol | apply At.matmul | apply At.splat | exact At.load h0 _ | exact At3.loadPlane h1 _ _
          | exact At.load h2 _ | exact At.load h3 _ | exact At.load h4 _ | exact At.load h5 _ | exact At.load h6 _
          | apply At.castSelf | apply At.slice | apply At.truncf)
        | apply At.rowSum | exact rfl
    · rw [e0, e1]
      simp only [Nat.zero_add, Matrix.cons_val_zero, Matrix.cons_val_one, Matrix.cons_val_fin_one]
      rfl

end Cert.Ffn2

end
-- ==== Proof.Ffn2Ref.lean ====
/- The second feed-forward half-step and the closing norm: what the reference computes, read entry by entry. -/
module

public import proofs.«01_k».proof.Proof.Gen.Reference4Ideal.Read
public import proofs.«01_k».proof.Proof.Read
public import proofs.«01_k».proof.Proof.Spec
public import Idealize.ShloMosaic.Lib.IdealHost

@[expose] public section

noncomputable section

namespace Cert.Ffn2Ref

open Cert.Reference4Ideal Cert.Reference4Ideal.Gen Cert.Reference4Ideal.Read Cert.Rd Cert.Spec Idealize.ShloMosaic Idealize.ShloMosaic.ValueIdx Idealize.ShloMosaic.TcCoe

/-- Row `t` of sequence `b`, normalised and modulated. -/
def hid (X M : ℕ → ℕ → ℕ → EReal) (G : ℕ → ℕ → EReal) (b t : ℕ) : ℕ → EReal := normMod (X b t) (G 0) (M b 7) (M b 6)

variable {x0 : (⟨S8x8192x1024, .f32⟩ : BufTy).Contents (Elt Ideal)} {x1 : (⟨S8x9x1024, .f32⟩ : BufTy).Contents (Elt Ideal)}
  {x2 : (⟨S1x1024, .f32⟩ : BufTy).Contents (Elt Ideal)} {x3 x4 : (⟨S1x1024x2816, .f32⟩ : BufTy).Contents (Elt Ideal)}
  {x6 : (⟨S1024, .f32⟩ : BufTy).Contents (Elt Ideal)} {x5 : (⟨S1x2816x1024, .f32⟩ : BufTy).Contents (Elt Ideal)} {X M WG WU WD : ℕ → ℕ → ℕ → EReal} {G F : ℕ → ℕ → EReal}

theorem v25_at (h0 : At3 (α := EReal) x0 X) (h1 : At3 (α := EReal) x1 M) (h2 : At (α := EReal) x2 G) :
    At3 (α := EReal) (l := 8) (m := 8192) (n := 1024) (val_main_v25 (F := Ideal) x0 x1 x2) (hid X M G) := by
  apply At3.of_apply
  intro i
  have hd : (i 2).val < 1024 := (i 2).isLt
  simp only [val_main_v25_apply, val_main_v24_apply, val_main_v23_apply, val_main_v22_apply, val_main_v21_apply, val_main_v20_apply,
    val_main_v19_apply, val_main_cst_2_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_cst_1_apply, val_main_v5_apply, val_main_v4_apply,
    val_main_cst_0_apply, val_main_v3_apply, val_main_v2_apply, val_main_v1_apply, val_main_cst_apply, val_main_v0_apply,
    h0.apply, h1.apply, h2.apply, show ((i 0).val * 1024 + (i 2).val) / 1024 = (i 0).val by omega,
    show ((i 0).val * 1024 + (i 2).val) % 1024 = (i 2).val by omega, Nat.mod_eq_of_lt hd]
  rw [show (FloatOps.ofBits (F := Ideal) FTy.f32 0#32) = (0 : EReal) from Ideal.ofBits_zero_f32, zero_add]
  unfold hid normMod rms
  rw [Finset.sum_range]
  rfl

theorem v31_at (h3 : At3 (α := EReal) x3 WG) : At (α := EReal) (m := 1024) (n := 2816) (val_main_v31 (F := Ideal) x3) (WG 0) := At3.plane h3 _
theorem v32_at (h4 : At3 (α := EReal) x4 WU) : At (α := EReal) (m := 1024) (n := 2816) (val_main_v32 (F := Ideal) x4) (WU 0) := At3.plane h4 _
theorem v33_at (h5 : At3 (α := EReal) x5 WD) : At (α := EReal) (m := 2816) (n := 1024) (val_main_v33 (F := Ideal) x5) (WD 0) := At3.plane h5 _

theorem v34_at (h0 : At3 (α := EReal) x0 X) (h1 : At3 (α := EReal) x1 M) (h2 : At (α := EReal) x2 G) (h3 : At3 (α := EReal) x3 WG) :
    At3 (α := EReal) (l := 8) (m := 8192) (n := 2816) (val_main_v34 (F := Ideal) x0 x1 x2 x3)
      (fun b t f => rowDot (hid X M G b t) (WG 0) f) := by
  apply At3.of_apply
  intro i
  simp only [val_main_v34_apply, (v31_at h3).apply, (v25_at h0 h1 h2).apply]
  unfold rowDot
  rw [Finset.sum_range]

theorem v36_at (h0 : At3 (α := EReal) x0 X) (h1 : At3 (α := EReal) x1 M) (h2 : At (α := EReal) x2 G) (h4 : At3 (α := EReal) x4 WU) :
    At3 (α := EReal) (l := 8) (m := 8192) (n := 2816) (val_main_v36 (F := Ideal) x0 x1 x2 x4)
      (fun b t f => rowDot (hid X M G b t) (WU 0) f) := by
  apply At3.of_apply
  intro i
  simp only [val_main_v36_apply, (v32_at h4).apply, (v25_at h0 h1 h2).apply]
  unfold rowDot
  rw [Finset.sum_range]

theorem v37_at (h0 : At3 (α := EReal) x0 X) (h1 : At3 (α := EReal) x1 M) (h2 : At (α := EReal) x2 G) (h3 : At3 (α := EReal) x3 WG)
    (h4 : At3 (α := EReal) x4 WU) :
    At3 (α := EReal) (l := 8) (m := 8192) (n := 2816) (val_main_v37 (F := Ideal) x0 x1 x2 x3 x4)
      (fun b t f => hidden (hid X M G b t) (WG 0) (WU 0) f) := by
  apply At3.of_apply
  intro i
  simp only [val_main_v37_apply, val_main_v35_apply, val_main_call0_v5_apply, val_main_call0_v4_apply, val_main_call0_cst_0_apply,
    val_main_call0_v3_apply, val_main_call0_v2_apply, val_main_call0_cst_apply, val_main_call0_v1_apply, val_main_call0_v0_apply,
    (v34_at h0 h1 h2 h3).apply, (v36_at h0 h1 h2 h4).apply]
  rw [show (FloatOps.ofBits (F := Ideal) FTy.f32 1065353216#32) = (1 : EReal) from Ideal.ofBits_one_f32]
  rfl

/-- The half-step, before the closing norm. -/
theorem v41_at (h0 : At3 (α := EReal) x0 X) (h1 : At3 (α := EReal) x1 M) (h2 : At (α := EReal) x2 G) (h3 : At3 (α := EReal) x3 WG)
    (h4 : At3 (α := EReal) x4 WU) (h5 : At3 (α := EReal) x5 WD) :
    At3 (α := EReal) (l := 8) (m := 8192) (n := 1024) (val_main_v41 (F := Ideal) x0 x1 x2 x3 x4 x5)
      (fun b t d => halfStep (X b t) (hid X M G b t) (M b 8) (WG 0) (WU 0) (WD 0) d) := by
  apply At3.of_apply
  intro i
  have hd : (i 2).val < 1024 := (i 2).isLt
  simp only [val_main_v41_apply, val_main_v40_apply, val_main_v39_apply, val_main_v38_apply, val_main_v30_apply,
    val_main_v29_apply, val_main_cst_3_apply, val_main_v28_apply, val_main_v27_apply, val_main_v26_apply,
    (v37_at h0 h1 h2 h3 h4).apply, h0.apply, h1.apply, (v33_at h5).apply, show ((i 0).val * 1024 + (i 2).val) / 1024 = (i 0).val by omega,
    show ((i 0).val * 1024 + (i 2).val) % 1024 = (i 2).val by omega]
  unfold halfStep swiglu
  rw [Finset.sum_range]
  rfl

/-- The row's closing norm. -/
def last (X M WG WU WD : ℕ → ℕ → ℕ → EReal) (G F : ℕ → ℕ → EReal) (b t : ℕ) : ℕ → EReal :=
  rms (halfStep (X b t) (hid X M G b t) (M b 8) (WG 0) (WU 0) (WD 0)) (F 0)

theorem v54_at (h0 : At3 (α := EReal) x0 X) (h1 : At3 (α := EReal) x1 M) (h2 : At (α := EReal) x2 G) (h3 : At3 (α := EReal) x3 WG)
    (h4 : At3 (α := EReal) x4 WU) (h5 : At3 (α := EReal) x5 WD) (h6 : ∀ j : Fin 1024, x6 (ix1 j) = F 0 j.val) :
    At3 (α := EReal) (l := 8) (m := 8192) (n := 1024) (val_main_v54 (F := Ideal) x0 x1 x2 x3 x4 x5 x6) (last X M WG WU WD G F) := by
  apply At3.of_apply
  intro i
  have h6' : x6 (idx_main_v52 (idx_main_v53 i)) = F 0 (i 2).val := (congrArg x6 (eq_ix1 _)).trans (h6 (i 2))
  simp only [val_main_v54_apply, val_main_v53_apply, val_main_v52_apply, val_main_v51_apply, val_main_v50_apply, val_main_v49_apply,
    val_main_v48_apply, val_main_v47_apply, val_main_cst_6_apply, val_main_v46_apply, val_main_v45_apply, val_main_cst_5_apply,
    val_main_v44_apply, val_main_v43_apply, val_main_cst_4_apply, val_main_v42_apply, (v41_at h0 h1 h2 h3 h4 h5).apply, h6']
  rw [show (FloatOps.ofBits (F := Ideal) FTy.f32 0#32) = (0 : EReal) from Ideal.ofBits_zero_f32, zero_add]
  unfold last rms
  rw [Finset.sum_range]
  rfl

/-- The result. -/
theorem v55_at (h0 : At3 (α := EReal) x0 X) (h1 : At3 (α := EReal) x1 M) (h2 : At (α := EReal) x2 G) (h3 : At3 (α := EReal) x3 WG)
    (h4 : At3 (α := EReal) x4 WU) (h5 : At3 (α := EReal) x5 WD) (h6 : ∀ j : Fin 1024, x6 (ix1 j) = F 0 j.val) :
    At (α := EReal) (m := 65536) (n := 1024) (val_main_v55 (F := Ideal) x0 x1 x2 x3 x4 x5 x6)
      (fun r d => last X M WG WU WD G F (r / 8192) (r % 8192) d) :=
  At3.flatten (v54_at h0 h1 h2 h3 h4 h5 h6) _ rfl

end Cert.Ffn2Ref

end
-- ==== Proof.Ffn2Value.lean ====
/- The second feed-forward half-step and the closing norm: the kernel's result array, read off its blocks, and its agreement with the reference. -/
module

public import proofs.«01_k».proof.Defs
public import proofs.«01_k».proof.Proof.Ffn2
public import proofs.«01_k».proof.Proof.Ffn2Ref
public import Idealize.ShloMosaic.Lib.Claim

@[expose] public section

noncomputable section

namespace Cert.Ffn2

open Cert.Kernel4Ideal Cert.Kernel4Ideal.Gen Cert.Rd Cert.Spec Idealize.ShloMosaic Idealize.ShloMosaic.ValueIdx Idealize.ShloMosaic.TcCoe

/-- One entry of the result, from the functions the argument arrays hold. -/
def out (X M : ℕ → ℕ → ℕ → EReal) (G : ℕ → ℕ → EReal) (WG WU WD : ℕ → ℕ → ℕ → EReal) (F : ℕ → ℕ → EReal) (b t d : ℕ) : EReal :=
  rms (halfStep (X b t) (normMod (X b t) (G 0) (M b 7) (M b 6)) (M b 8) (WG 0) (WU 0) (WD 0)) (F 0) d

section Array
variable (m : (ℓ : Loc nD τ sig) → Buf (Elt Ideal) ℓ) (c : Dev nD) {X M WG WU WD : ℕ → ℕ → ℕ → EReal} {G F : ℕ → ℕ → EReal}

theorem V0 (h : ∀ j : Fin 1024, m ((c.tc : Thread nD τ).loc main_arg6) (ValueIdx.ix1 j) = F 0 j.val) :
    At (α := EReal) (V m c main_v0) (fun _ => F 0) := by
  entry_read; exact At.vecRow h _
theorem V1 (h : At3 (α := EReal) (m ((c.tc : Thread nD τ).loc main_arg0)) X) :
    At (α := EReal) (V m c main_v1) (fun r d => X (r / 8192) (r % 8192) d) := by
  entry_read; exact At3.flatten h _ rfl
theorem V3 (h : At (α := EReal) (m ((c.tc : Thread nD τ).loc main_arg2)) G) : At (α := EReal) (V m c main_v3) G := by
  entry_read; exact At.rowVecRow h _ _
theorem V5 (h : At3 (α := EReal) (m ((c.tc : Thread nD τ).loc main_arg3)) WG) : At (α := EReal) (V m c main_v5) (WG 0) := by
  entry_read; exact At.truncf (At3.plane h _) _
theorem V7 (h : At3 (α := EReal) (m ((c.tc : Thread nD τ).loc main_arg4)) WU) : At (α := EReal) (V m c main_v7) (WU 0) := by
  entry_read; exact At.truncf (At3.plane h _) _
theorem V9 (h : At3 (α := EReal) (m ((c.tc : Thread nD τ).loc main_arg5)) WD) : At (α := EReal) (V m c main_v9) (WD 0) := by
  entry_read; exact At.truncf (At3.plane h _) _

theorem index0 : ∀ t : Fin cfg0.N, win0_0.index t = ![t.val, 0] := by decide +kernel
theorem index1 : ∀ t : Fin cfg0.N, win0_1.index t = ![t.val / 8, 0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel

theorem blk0 (t : Fin cfg0.N) (h : At3 (α := EReal) (m ((c.tc : Thread nD τ).loc main_arg0)) X) :
    At (α := EReal) (m := 1024) (n := 1024) (iblk m c 0 t) (fun i d => X ((t.val * 1024 + i) / 8192) ((t.val * 1024 + i) % 8192) d) := by
  apply At.of_apply
  intro y
  refine ((V1 m c h).apply (((cfg0.win 0).blk t).view.emb y)).trans ?_
  blk_simp [index0]

theorem blk1 (t : Fin cfg0.N) (h : At3 (α := EReal) (m ((c.tc : Thread nD τ).loc main_arg1)) M) :
    At3 (α := EReal) (l := 1) (m := 9) (n := 1024) (iblk m c 1 t) (fun i j d => M (t.val / 8 + i) j d) := by
  apply At3.of_apply
  intro y
  refine (congrFun (V_main_arg1 m c) (((cfg0.win 1).blk t).view.emb y)).trans ((h.apply (((cfg0.win 1).blk t).view.emb y)).trans ?_)
  blk_simp [index1]

theorem blk2 (t : Fin cfg0.N) (h : At (α := EReal) (m ((c.tc : Thread nD τ).loc main_arg2)) G) :
    At (α := EReal) (m := 1) (n := 1024) (iblk m c 2 t) G := by
  apply At.of_apply
  intro y
  refine ((V3 m c h).apply (((cfg0.win 2).blk t).view.emb y)).trans ?_
  blk_simp [index2]

theorem blk3 (t : Fin cfg0.N) (h : At3 (α := EReal) (m ((c.tc : Thread nD τ).loc main_arg3)) WG) :
    At (α := EReal) (m := 1024) (n := 2816) (iblk m c 3 t) (WG 0) := by
  apply At.of_apply
  intro y
  refine ((V5 m c h).apply (((cfg0.win 3).blk t).view.emb y)).trans ?_
  blk_simp [index3]

theorem blk4 (t : Fin cfg0.N) (h : At3 (α := EReal) (m ((c.tc : Thread nD τ).loc main_arg4)) WU) :
    At (α := EReal) (m := 1024) (n := 2816) (iblk m c 4 t) (WU 0) := by
  apply At.of_apply
  intro y
  refine ((V7 m c h).apply (((cfg0.win 4).blk t).view.emb y)).trans ?_
  blk_simp [index4]

theorem blk5 (t : Fin cfg0.N) (h : At3 (α := EReal) (m ((c.tc : Thread nD τ).loc main_arg5)) WD) :
    At (α := EReal) (m := 2816) (n := 1024) (iblk m c 5 t) (WD 0) := by
  apply At.of_apply
  intro y
  refine ((V9 m c h).apply (((cfg0.win 5).blk t).view.emb y)).trans ?_
  blk_simp [index5]

theorem blk6 (t : Fin cfg0.N) (h : ∀ j : Fin 1024, m ((c.tc : Thread nD τ).loc main_arg6) (ValueIdx.ix1 j) = F 0 j.val) :
    At (α := EReal) (m := 1) (n := 1024) (iblk m c 6 t) (fun _ => F 0) := by
  apply At.of_apply
  intro y
  refine ((V0 m c h).apply (((cfg0.win 6).blk t).view.emb y)).trans ?_
  blk_simp [index6]

/-- The result array holds the result of every row. -/
theorem arr_at (h0 : At3 (α := EReal) (m ((c.tc : Thread nD τ).loc main_arg0)) X)
    (h1 : At3 (α := EReal) (m ((c.tc : Thread nD τ).loc main_arg1)) M)
    (h2 : At (α := EReal) (m ((c.tc : Thread nD τ).loc main_arg2)) G)
    (h3 : At3 (α := EReal) (m ((c.tc : Thread nD τ).loc main_arg3)) WG)
    (h4 : At3 (α := EReal) (m ((c.tc : Thread nD τ).loc main_arg4)) WU)
    (h5 : At3 (α := EReal) (m ((c.tc : Thread nD τ).loc main_arg5)) WD)
    (h6 : ∀ j : Fin 1024, m ((c.tc : Thread nD τ).loc main_arg6) (ValueIdx.ix1 j) = F 0 j.val) :
    At (α := EReal) (m := 65536) (n := 1024) ((dats m 0 c).arrAt 7 cfg0.N)
      (fun r d => out X M G WG WU WD F (r / 8192) (r % 8192) d) := by
  apply At.of_apply
  intro i
  refine congrFun (a := i) ((dats m 0 c).arrAt_eq_of_covers 7 (fun i => out X M G WG WU WD F ((i 0).val / 8192) ((i 0).val % 8192) (i 1).val)
    (by decide +kernel) fun t _ y => ?_)
  blk_simp [index7]
  rw [after0_7]
  refine ((out_at (blk0 m c t h0) (blk1 m c t h1) (blk2 m c t h2) (blk3 m c t h3) (blk4 m c t h4) (blk5 m c t h5)
    (blk6 m c t h6)).apply y).trans ?_
  have hy : (y 0).val < 1024 := (y 0).isLt
  have ht : t.val < 64 := t.isLt
  have e : (t.val * 1024 + (y 0).val) / 8192 = t.val / 8 := by omega
  unfold row out
  beta_reduce
  rw [e, Nat.add_zero]
end Array

/-- The kernel and the reference leave the same result. -/
theorem algebraic [Cert.Kernel4Ideal.Facts] [Cert.Reference4Ideal.Facts] : Cert.algebraic_Kernel4Ideal_Reference4Ideal := by
  intro m g m' g' _ hm
  refine ⟨fun c => (dats m 0 c).arrAt 7 cfg0.N, Cert.Kernel4Ideal.Value.run_blocks m g, ?_⟩
  refine (θ_run _ _ _).mono (fun r h c => ⟨(h c).1.trans ?_, (h c).2⟩) (Cert.Reference4Ideal.Value.run (F := Ideal) m' g')
  obtain ⟨e0, e1, e2, e3, e4, e5, e6⟩ := hm c
  rw [Cert.Reference4Ideal.Read.val_main_v55_eq, e0, e1, e2, e3, e4, e5, e6]
  exact (Cert.Ffn2Ref.v55_at (F := fun _ => rd1 (m ((c.tc : Thread nD τ).loc main_arg6))) (at_rd3 _) (at_rd3 _) (at_rd2 _) (at_rd3 _) (at_rd3 _) (at_rd3 _) (at_rd1 _)).ext
    (arr_at (F := fun _ => rd1 (m ((c.tc : Thread nD τ).loc main_arg6))) m c (at_rd3 _) (at_rd3 _) (at_rd2 _) (at_rd3 _) (at_rd3 _) (at_rd3 _) (at_rd1 _))

end Cert.Ffn2

end
-- ==== Proof.Ada.lean ====
/- The modulation vectors: `silu c` times a matrix, plus a bias. The kernel's result, the reference's, and their agreement. -/
module

public import proofs.«01_k».proof.Defs
public import proofs.«01_k».proof.Proof.Gen.Kernel3Ideal.Value
public import proofs.«01_k».proof.Proof.Gen.Reference3Ideal.Read
public import proofs.«01_k».proof.Proof.Read
public import proofs.«01_k».proof.Proof.Spec
public import Idealize.ShloMosaic.Lib.IdealHost
public import Idealize.ShloMosaic.Lib.Pipeline.ValueKit
public import Idealize.ShloMosaic.Lib.Claim

@[expose] public section

noncomputable section

namespace Cert.Ada

open Cert.Rd Cert.Spec Idealize.ShloMosaic Idealize.ShloMosaic.ValueIdx Idealize.ShloMosaic.TcCoe

/-- `silu` of every entry of a row. -/
def silu (C : ℕ → ℕ → EReal) (b l : ℕ) : EReal := C b l * Ideal.logistic (C b l)

/-- One entry of the modulation vectors. -/
def out (C W B : ℕ → ℕ → EReal) (b d : ℕ) : EReal := rowDot (silu C b) W d + B 0 d

section Kernel
open Cert.Kernel3Ideal Cert.Kernel3Ideal.Gen

theorem out_at {x0 : Vec Ideal S8x1024 .f32} {x1 : Vec Ideal S1024x1024 .f32} {x2 : Vec Ideal S1x1024 .f32} {C W B : ℕ → ℕ → EReal}
    (h0 : At (α := EReal) x0 C) (h1 : At (α := EReal) x1 W) (h2 : At (α := EReal) x2 B) :
    At (α := EReal) (out0_3 x0 x1 x2) (out C W B) := by
  apply At.of_apply
  intro y
  refine View.canon_eq_of_allAt _ y _ (cover0_3 _ y) (View.allAt_cons_unit _ _ _ _ _ (fun x hx => ?_) (View.allAt_nil _ _))
  have e0 := hx 0
  have e1 := hx 1
  simp only [k0_pay1]
  apply Eq.trans
  · apply At.apply
    repeat' first
      | (with_reducible first
        | apply At.addf | apply At.mulf | apply At.logistic | apply At.bcastRow | apply At.matmul
        | exact At.load h0 _ | exact At.load h1 _ | exact At.load h2 _ | apply At.castSelf)
      | exact rfl
  · rw [e0, e1]
    simp only [Nat.zero_add, Matrix.cons_val_zero, Matrix.cons_val_one, Matrix.cons_val_fin_one]
    rfl

variable (m : (ℓ : Loc nD τ sig) → Buf (Elt Ideal) ℓ) (c : Dev nD) {W : ℕ → ℕ → ℕ → EReal} {C B : ℕ → ℕ → EReal}

theorem V0 (h : At3 (α := EReal) (m ((c.tc : Thread nD τ).loc main_arg1)) W) : At (α := EReal) (V m c main_v0) (W 0) := by
  entry_read; exact At3.plane h _
theorem V2 (h : At (α := EReal) (m ((c.tc : Thread nD τ).loc main_arg2)) B) : At (α := EReal) (V m c main_v2) B := by
  entry_read; exact At.rowVecRow h _ _

theorem index0 : ∀ t : Fin cfg0.N, win0_0.index t = ![0, 0] := by decide +kernel
theorem index1 : ∀ t : Fin cfg0.N, win0_1.index t = ![0, t.val] := by decide +kernel
theorem index2 : ∀ t : Fin cfg0.N, win0_2.index t = ![0, t.val] := by decide +kernel
theorem index3 : ∀ t : Fin cfg0.N, win0_3.index t = ![0, t.val] := by decide +kernel

theorem blk0 (t : Fin cfg0.N) (h : At (α := EReal) (m ((c.tc : Thread nD τ).loc main_arg0)) C) :
    At (α := EReal) (m := 8) (n := 1024) (iblk m c 0 t) C := by
  apply At.of_apply
  intro y
  refine (congrFun (V_main_arg0 m c) (((cfg0.win 0).blk t).view.emb y)).trans ((h.apply (((cfg0.win 0).blk t).view.emb y)).trans ?_)
  blk_simp [index0]

theorem blk1 (t : Fin cfg0.N) (h : At3 (α := EReal) (m ((c.tc : Thread nD τ).loc main_arg1)) W) :
    At (α := EReal) (m := 1024) (n := 1024) (iblk m c 1 t) (fun l d => W 0 l (t.val * 1024 + d)) := by
  apply At.of_apply
  intro y
  refine ((V0 m c h).apply (((cfg0.win 1).blk t).view.emb y)).trans ?_
  blk_simp [index1]

theorem blk2 (t : Fin cfg0.N) (h : At (α := EReal) (m ((c.tc : Thread nD τ).loc main_arg2)) B) :
    At (α := EReal) (m := 1) (n := 1024) (iblk m c 2 t) (fun l d => B l (t.val * 1024 + d)) := by
  apply At.of_apply
  intro y
  refine ((V2 m c h).apply (((cfg0.win 2).blk t).view.emb y)).trans ?_
  blk_simp [index2]

/-- The kernel's result array. -/
theorem arr_at (h0 : At (α := EReal) (m ((c.tc : Thread nD τ).loc main_arg0)) C)
    (h1 : At3 (α := EReal) (m ((c.tc : Thread nD τ).loc main_arg1)) W)
    (h2 : At (α := EReal) (m ((c.tc : Thread nD τ).loc main_arg2)) B) :
    At (α := EReal) (m := 8) (n := 9216) ((dats m 0 c).arrAt 3 cfg0.N) (out C (W 0) B) := by
  apply At.of_apply
  intro i
  refine congrFun (a := i) ((dats m 0 c).arrAt_eq_of_covers 3 (fun i => out C (W 0) B (i 0).val (i 1).val)
    (by decide +kernel) fun t _ y => ?_)
  blk_simp [index3]
  rw [after0_3]
  exact (out_at (blk0 m c t h0) (blk1 m c t h1) (blk2 m c t h2)).apply y
end Kernel

section Reference
open Cert.Reference3Ideal Cert.Reference3Ideal.Gen Cert.Reference3Ideal.Read

variable {x0 : (⟨S8x1024, .f32⟩ : BufTy).Contents (Elt Ideal)} {x1 : (⟨S1x1024x9216, .f32⟩ : BufTy).Contents (Elt Ideal)}
  {x2 : (⟨S1x9216, .f32⟩ : BufTy).Contents (Elt Ideal)} {W : ℕ → ℕ → ℕ → EReal} {C B : ℕ → ℕ → EReal}

theorem v1_at (h1 : At3 (α := EReal) x1 W) : At (α := EReal) (m := 1024) (n := 9216) (val_main_v1 (F := Ideal) x1) (W 0) := At3.plane h1 _

theorem v0_at (h0 : At (α := EReal) x0 C) : At (α := EReal) (m := 8) (n := 1024) (val_main_v0 (F := Ideal) x0) (silu C) := by
  apply At.of_apply
  intro i
  simp only [val_main_v0_apply, val_main_call0_v5_apply, val_main_call0_v4_apply, val_main_call0_cst_0_apply,
    val_main_call0_v3_apply, val_main_call0_v2_apply, val_main_call0_cst_apply, val_main_call0_v1_apply, val_main_call0_v0_apply, h0.apply]
  rw [show (FloatOps.ofBits (F := Ideal) FTy.f32 1065353216#32) = (1 : EReal) from Ideal.ofBits_one_f32]
  rfl

/-- The reference's result. -/
theorem v6_at (h0 : At (α := EReal) x0 C) (h1 : At3 (α := EReal) x1 W) (h2 : At (α := EReal) x2 B) :
    At (α := EReal) (m := 8) (n := 9216) (val_main_v6 (F := Ideal) x0 x1 x2) (out C (W 0) B) := by
  apply At.of_apply
  intro i
  have hd : (i 1).val < 9216 := (i 1).isLt
  simp only [val_main_v6_apply, val_main_v5_apply, val_main_v4_apply, val_main_v3_apply, val_main_v2_apply, (v0_at h0).apply,
    (v1_at h1).apply, h2.apply, Nat.mod_eq_of_lt hd]
  unfold out rowDot
  rw [Finset.sum_range]
  rfl
end Reference

/-- The kernel and the reference leave the same result. -/
theorem algebraic [Cert.Kernel3Ideal.Facts] [Cert.Reference3Ideal.Facts] : Cert.algebraic_Kernel3Ideal_Reference3Ideal := by
  intro m g m' g' _ hm
  refine ⟨fun c => (Cert.Kernel3Ideal.Gen.dats m 0 c).arrAt 3 Cert.Kernel3Ideal.cfg0.N, Cert.Kernel3Ideal.Value.run_blocks m g, ?_⟩
  refine (θ_run _ _ _).mono (fun r h c => ⟨(h c).1.trans ?_, (h c).2⟩) (Cert.Reference3Ideal.Value.run (F := Ideal) m' g')
  obtain ⟨e0, e1, e2⟩ := hm c
  rw [Cert.Reference3Ideal.Read.val_main_v6_eq, e0, e1, e2]
  exact (v6_at (at_rd2 _) (at_rd3 _) (at_rd2 _)).ext (arr_at m c (at_rd2 _) (at_rd3 _) (at_rd2 _))

end Cert.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Ffn1Value
public import proofs.«01_k».proof.Proof.Ffn2Value
public import proofs.«01_k».proof.Proof.Ada
public import Idealize.ShloMosaic.Adequacy
public import Idealize.ShloMosaic.Init

@[expose] public section

noncomputable section

namespace Cert.Proof

open Idealize.ShloMosaic Idealize.SL.Sem

/-- The reference of the first half-step runs and leaves its arguments as they were; it declares no semaphore. -/
theorem frame_r2 : Cert.quiescent_Reference2Ideal := fun m g _ =>
  (θ_run _ _ _).mono (fun _ h => ⟨fun c => (h c).2, funext fun ⟨_, s⟩ => nomatch s⟩) (Cert.Reference2Ideal.Value.run (F := Ideal) m g)
/-- The reference of the second half-step and the closing norm, likewise. -/
theorem frame_r4 : Cert.quiescent_Reference4Ideal := fun m g _ =>
  (θ_run _ _ _).mono (fun _ h => ⟨fun c => (h c).2, funext fun ⟨_, s⟩ => nomatch s⟩) (Cert.Reference4Ideal.Value.run (F := Ideal) m g)
/-- The reference of the modulation vectors, likewise. -/
theorem frame_r3 : Cert.quiescent_Reference3Ideal := fun m g _ =>
  (θ_run _ _ _).mono (fun _ h => ⟨fun c => (h c).2, funext fun ⟨_, s⟩ => nomatch s⟩) (Cert.Reference3Ideal.Value.run (F := Ideal) m g)

/-- The mixer kernel's one rewrite: the value that stands for the masked decays is read as `-∞`. -/
theorem mask : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts,
    Cert.Kernel2.Gen.facts, Cert.Kernel2Ideal.Gen.facts, Cert.Reference2Ideal.Gen.facts, Cert.Kernel4.Gen.facts, Cert.Kernel4Ideal.Gen.facts,
    Cert.Reference4Ideal.Gen.facts, Cert.Kernel3.Gen.facts, Cert.Kernel3Ideal.Gen.facts, Cert.Reference3Ideal.Gen.facts,
    fun m g _ => Cert.Kernel.Gen.frame m g, fun m g _ => Cert.KernelIdeal.Gen.frame m g,
    fun m g _ => Cert.Kernel2.Gen.frame m g, fun m g _ => Cert.Kernel2Ideal.Gen.frame m g, frame_r2,
    fun m g _ => Cert.Kernel4.Gen.frame m g, fun m g _ => Cert.Kernel4Ideal.Gen.frame m g, frame_r4,
    fun m g _ => Cert.Kernel3.Gen.frame m g, fun m g _ => Cert.Kernel3Ideal.Gen.frame m g, frame_r3,
    mask, trivial, Cert.Ffn1.algebraic, trivial, Cert.Ffn2.algebraic, trivial, Cert.Ada.algebraic⟩

end Cert.Proof

end
